-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000 : Shape := ⟨1, ![320000]⟩
abbrev S10000x32 : Shape := ⟨2, ![10000, 32]⟩
abbrev S128x32 : Shape := ⟨2, ![128, 32]⟩
abbrev S32x32 : Shape := ⟨2, ![32, 32]⟩
abbrev S32 : Shape := ⟨1, ![32]⟩
abbrev S1x32 : Shape := ⟨2, ![1, 32]⟩
abbrev S128x128 : Shape := ⟨2, ![128, 128]⟩
abbrev S32x128 : Shape := ⟨2, ![32, 128]⟩
abbrev S128 : Shape := ⟨1, ![128]⟩
abbrev S1x128 : Shape := ⟨2, ![1, 128]⟩
abbrev S163x128 : Shape := ⟨2, ![163, 128]⟩
abbrev S2000x128 : Shape := ⟨2, ![2000, 128]⟩
abbrev S2000x32 : Shape := ⟨2, ![2000, 32]⟩

abbrev nBuf : Space → Nat
  | .hbm => 33
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S10000x32, .f32⟩
  | .hbm, ⟨4, _⟩ => ⟨S10000x32, .f32⟩
  | .hbm, ⟨5, _⟩ => ⟨S128x32, .f32⟩
  | .hbm, ⟨6, _⟩ => ⟨S128x32, .f32⟩
  | .hbm, ⟨7, _⟩ => ⟨S128x32, .f32⟩
  | .hbm, ⟨8, _⟩ => ⟨S128x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S128x128, .f32⟩
  | .hbm, ⟨25, _⟩ => ⟨S32x128, .f32⟩
  | .hbm, ⟨26, _⟩ => ⟨S128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S163x128, .f32⟩
  | .hbm, ⟨31, _⟩ => ⟨S10000x32, .f32⟩
  | .hbm, ⟨32, _⟩ => ⟨S10000x32, .f32⟩
  | .local _ .vmem, ⟨0, _⟩ => ⟨S2000x128, .f32⟩
  | .local _ .vmem, ⟨1, _⟩ => ⟨S2000x128, .f32⟩
  | .local _ .vmem, ⟨2, _⟩ => ⟨S2000x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S163x128, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7_0 : Ref sig .tc := ⟨.hbm, 31, rfl⟩
abbrev main_v7_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S163x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S10000x32 : Shape := ⟨2, ![10000, 32]⟩
abbrev S128x32 : Shape := ⟨2, ![128, 32]⟩
abbrev S32x32 : Shape := ⟨2, ![32, 32]⟩
abbrev S32 : Shape := ⟨1, ![32]⟩
abbrev S1x32 : Shape := ⟨2, ![1, 32]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S10000x32, .f32⟩
  | .hbm, ⟨4, _⟩ => ⟨S10000x32, .f32⟩
  | .hbm, ⟨5, _⟩ => ⟨S128x32, .f32⟩
  | .hbm, ⟨6, _⟩ => ⟨S128x32, .f32⟩
  | .hbm, ⟨7, _⟩ => ⟨S128x32, .f32⟩
  | .hbm, ⟨8, _⟩ => ⟨S128x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S10000x32, .f32⟩
  | .hbm, ⟨25, _⟩ => ⟨S10000x32, .f32⟩
  | .hbm, ⟨26, _⟩ => ⟨S1x32, .f32⟩
  | .hbm, ⟨27, _⟩ => ⟨S10000x32, .f32⟩
  | .hbm, ⟨28, _⟩ => ⟨S10000x32, .f32⟩
  | .hbm, ⟨29, _⟩ => ⟨S10000x32, .f32⟩
  | .hbm, ⟨30, _⟩ => ⟨S10000x32, .f32⟩
  | .hbm, ⟨31, _⟩ => ⟨S10000x32, .f32⟩
  | .hbm, ⟨32, _⟩ => ⟨S10000x32, .f32⟩
  | .hbm, ⟨33, _⟩ => ⟨S10000x32, .f32⟩
  | .hbm, ⟨34, _⟩ => ⟨S10000x32, .f32⟩
  | .hbm, ⟨35, _⟩ => ⟨S10000x32, .f32⟩
  | .hbm, ⟨36, _⟩ => ⟨S10000x32, .f32⟩
  | .hbm, ⟨37, _⟩ => ⟨S_, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S10000x32, .f32⟩
  | .hbm, ⟨44, _⟩ => ⟨S10000x32, .f32⟩
  | .hbm, ⟨45, _⟩ => ⟨S1x32, .f32⟩
  | .hbm, ⟨46, _⟩ => ⟨S10000x32, .f32⟩
  | .hbm, ⟨47, _⟩ => ⟨S10000x32, .f32⟩
  | .hbm, ⟨48, _⟩ => ⟨S10000x32, .f32⟩
  | .hbm, ⟨49, _⟩ => ⟨S10000x32, .f32⟩
  | .hbm, ⟨50, _⟩ => ⟨S10000x32, .f32⟩
  | .hbm, ⟨51, _⟩ => ⟨S10000x32, .f32⟩
  | .hbm, ⟨52, _⟩ => ⟨S10000x32, .f32⟩
  | .hbm, ⟨53, _⟩ => ⟨S10000x32, .f32⟩
  | .hbm, ⟨54, _⟩ => ⟨S10000x32, .f32⟩
  | .hbm, ⟨55, _⟩ => ⟨S10000x32, .f32⟩
  | .hbm, ⟨56, _⟩ => ⟨S_, .f32⟩
  | .hbm, ⟨57, _⟩ => ⟨S10000x32, .f32⟩
  | .hbm, ⟨58, _⟩ => ⟨S10000x32, .f32⟩
  | .hbm, ⟨59, _⟩ => ⟨S_, .f32⟩
  | .hbm, ⟨60, _⟩ => ⟨S10000x32, .f32⟩
  | .hbm, ⟨61, _⟩ => ⟨S10000x32, .f32⟩
  | .hbm, ⟨62, _⟩ => ⟨S10000x32, .f32⟩
  | .hbm, ⟨63, _⟩ => ⟨S10000x32, .f32⟩
  | .hbm, ⟨64, _⟩ => ⟨S1x32, .f32⟩
  | .hbm, ⟨65, _⟩ => ⟨S10000x32, .f32⟩
  | .hbm, ⟨66, _⟩ => ⟨S10000x32, .f32⟩
  | .hbm, ⟨67, _⟩ => ⟨S10000x32, .f32⟩
  | .hbm, ⟨68, _⟩ => ⟨S10000x32, .f32⟩
  | .hbm, ⟨69, _⟩ => ⟨S10000x32, .f32⟩
  | .hbm, ⟨70, _⟩ => ⟨S10000x32, .f32⟩
  | .hbm, ⟨71, _⟩ => ⟨S10000x32, .f32⟩
  | .hbm, ⟨72, _⟩ => ⟨S10000x32, .f32⟩
  | .hbm, ⟨73, _⟩ => ⟨S10000x32, .f32⟩
  | .hbm, ⟨74, _⟩ => ⟨S10000x32, .f32⟩
  | .hbm, ⟨75, _⟩ => ⟨S10000x32, .f32⟩
  | .hbm, ⟨76, _⟩ => ⟨S1x32, .f32⟩
  | .hbm, ⟨77, _⟩ => ⟨S10000x32, .f32⟩
  | .hbm, ⟨78, _⟩ => ⟨S10000x32, .f32⟩
  | .hbm, ⟨79, _⟩ => ⟨S10000x32, .f32⟩
  | .hbm, ⟨80, _⟩ => ⟨S10000x32, .f32⟩
  | .hbm, ⟨81, _⟩ => ⟨S10000x32, .f32⟩
  | .hbm, ⟨82, _⟩ => ⟨S10000x32, .f32⟩
  | .hbm, ⟨83, _⟩ => ⟨S10000x32, .f32⟩
  | .hbm, ⟨84, _⟩ => ⟨S10000x32, .f32⟩
  | .hbm, ⟨85, _⟩ => ⟨S10000x32, .f32⟩
  | .hbm, ⟨86, _⟩ => ⟨S10000x32, .f32⟩
  | .hbm, ⟨87, _⟩ => ⟨S_, .f32⟩
  | .hbm, ⟨88, _⟩ => ⟨S10000x32, .f32⟩
  | .hbm, ⟨89, _⟩ => ⟨S10000x32, .f32⟩
  | .hbm, ⟨90, _⟩ => ⟨S_, .f32⟩
  | .hbm, ⟨91, _⟩ => ⟨S10000x32, .f32⟩
  | .hbm, ⟨92, _⟩ => ⟨S10000x32, .f32⟩
  | .hbm, ⟨93, _⟩ => ⟨S10000x32, .f32⟩
  | .hbm, ⟨94, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_3 : Ref sig .tc := ⟨.hbm, 87, rfl⟩
abbrev main_v59 : Ref sig .tc := ⟨.hbm, 88, rfl⟩
abbrev main_v60 : Ref sig .tc := ⟨.hbm, 89, rfl⟩
abbrev main_cst_4 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Proof.Cell.lean ====
/-
  The GCLSTM cell at one row and one output lane, as plain formulas on extended reals: nothing here mentions a program.
  The operands are a row of the input (128 lanes), a row of the hidden state (32 lanes) and one entry of the cell state; a
  gate's parameters are one column of its input weights, one column of its hidden weights and two bias numbers.
-/
module

public import Idealize.ShloMosaic.Lib.Pointwise

@[expose] public section

noncomputable section

namespace Cert.Cell

open Idealize.ShloMosaic

/-- The parameters of one gate at one output lane. -/
@[ext] structure Gate where
  /-- the column of the input weights -/
  w : Fin 128 → EReal
  /-- the column of the hidden weights -/
  th : Fin 32 → EReal
  /-- the bias of the convolution -/
  bconv : EReal
  /-- the bias of the gate -/
  b : EReal

/-- A gate before its nonlinearity, without the peephole term: both products and both biases. -/
def Gate.pre (g : Gate) (xs : Fin 128 → EReal) (hs : Fin 32 → EReal) : EReal :=
  (∑ k, xs k * g.w k) + (∑ k, hs k * g.th k) + g.bconv + g.b

/-- The parameters of a whole cell at one output lane: four gates and three peephole weights. -/
@[ext] structure Params where
  /-- the input gate -/
  i : Gate
  /-- the forget gate -/
  f : Gate
  /-- the candidate -/
  t : Gate
  /-- the output gate -/
  o : Gate
  /-- the input gate's peephole weight -/
  pi : EReal
  /-- the forget gate's peephole weight -/
  pf : EReal
  /-- the output gate's peephole weight -/
  po : EReal

/-- The new cell state: `F · c + I · T`. -/
def Params.newC (p : Params) (xs : Fin 128 → EReal) (hs : Fin 32 → EReal) (c : EReal) : EReal :=
  Ideal.logistic (p.f.pre xs hs + p.pf * c) * c
    + Ideal.logistic (p.i.pre xs hs + p.pi * c) * Ideal.tanh (p.t.pre xs hs)

/-- The new hidden state: `O · tanh C`, the output gate seeing the new cell state through its peephole. -/
def Params.newH (p : Params) (xs : Fin 128 → EReal) (hs : Fin 32 → EReal) (c : EReal) : EReal :=
  Ideal.logistic (p.o.pre xs hs + p.po * p.newC xs hs c) * Ideal.tanh (p.newC xs hs c)

/-- A gate's parameters at output lane `j`, from its weight matrices and its biases. -/
def gateOf (w : FVec Ideal ⟨2, ![128, 32]⟩ .f32) (th : FVec Ideal ⟨2, ![32, 32]⟩ .f32) (bconv : FVec Ideal ⟨1, ![32]⟩ .f32)
    (b : FVec Ideal ⟨2, ![1, 32]⟩ .f32) (j : Fin 32) : Gate where
  w k := w (ix2 k j)
  th k := th (ix2 k j)
  bconv := bconv (ix1 j)
  b := b (ix2 0 j)

/-- The new cell state as an array: every row of the three state arrays through the cell, `p j` the parameters at lane `j`. -/
def arrayC (p : Fin 32 → Params) (x : FVec Ideal ⟨2, ![10000, 128]⟩ .f32) (h c : FVec Ideal ⟨2, ![10000, 32]⟩ .f32) :
    FVec Ideal ⟨2, ![10000, 32]⟩ .f32 :=
  fun i => (p (i 1)).newC (fun k => x (ix2 (i 0) k)) (fun k => h (ix2 (i 0) k)) (c i)

/-- The new hidden state as an array. -/
def arrayH (p : Fin 32 → Params) (x : FVec Ideal ⟨2, ![10000, 128]⟩ .f32) (h c : FVec Ideal ⟨2, ![10000, 32]⟩ .f32) :
    FVec Ideal ⟨2, ![10000, 32]⟩ .f32 :=
  fun i => (p (i 1)).newH (fun k => x (ix2 (i 0) k)) (fun k => h (ix2 (i 0) k)) (c i)

end Cert.Cell

end
-- ==== Proof.Block.lean ====
/-
  What the kernel body leaves in its two output blocks, element by element: the GCLSTM cell's formulas (`Cell`) on the rows of
  the input blocks, the parameters read out of the packed weight array's columns.
-/
module

public import proofs.«01_k».proof.Proof.Cell
public import proofs.«01_k».proof.Proof.Gen.KernelIdeal.Frame
public import Idealize.ShloMosaic.Lib.Pipeline.Value
public import Idealize.ShloMosaic.Lib.Pointwise

@[expose] public section

noncomputable section

namespace Cert.KernelIdeal.Block

open Cert.KernelIdeal Cert.KernelIdeal.Gen Idealize.ShloMosaic Cert.Cell

/-- The gate whose lanes start at lane `o`, at output lane `j`, in the packed array: rows 0–127 are the input weights,
    128–159 the hidden weights, 160 and 161 the two biases. -/
def gate (w : FVec Ideal S163x128 .f32) (o : Nat) (ho : o + 32 ≤ 128) (j : Fin 32) : Gate where
  w k := w (ix2 ⟨k, by omega⟩ ⟨o + j, by omega⟩)
  th k := w (ix2 ⟨128 + k, by omega⟩ ⟨o + j, by omega⟩)
  bconv := w (ix2 160 ⟨o + j, by omega⟩)
  b := w (ix2 161 ⟨o + j, by omega⟩)

/-- The peephole weight whose lanes start at lane `o`, at output lane `j`: row 162 of the packed array. -/
def peephole (w : FVec Ideal S163x128 .f32) (o : Nat) (ho : o + 32 ≤ 128) (j : Fin 32) : EReal :=
  w (ix2 162 ⟨o + j, by omega⟩)

/-- The cell's parameters at output lane `j`, in the packed array: one group of 32 lanes for each gate. -/
def params (w : FVec Ideal S163x128 .f32) (j : Fin 32) : Params where
  i := gate w 0 (by decide) j
  f := gate w 32 (by decide) j
  t := gate w 64 (by decide) j
  o := gate w 96 (by decide) j
  pi := peephole w 0 (by decide) j
  pf := peephole w 32 (by decide) j
  po := peephole w 64 (by decide) j

/-- The value that the body stores as the new cell state is the cell's `newC` on row `r` of its blocks. -/
theorem cell_apply (x0 : FVec Ideal S2000x128 .f32) (x1 x2 : FVec Ideal S2000x32 .f32) (x3 : FVec Ideal S163x128 .f32)
    (r : Fin 2000) (j : Fin 32) :
    k0_pay7 (F := Ideal) x0 x1 x2 x3 (ix2 r j)
      = (params x3 j).newC (fun k => x0 (ix2 r k)) (fun k => x1 (ix2 r k)) (x2 (ix2 r j)) := by
  pointwise [k0_pay7, k0_pay5, k0_pay4, k0_pay3, k0_pay2]
  simp only [Params.newC, Gate.pre, params, gate, peephole, Nat.zero_add]

/-- The offset at which the body stores its blocks is zero on both axes. -/
theorem zero_off : (![0, 0] : Fin S2000x32.rank → Nat) = fun _ => 0 := funext fun a => by fin_cases a <;> rfl

/-- The block of the second output, the new cell state, at row `r` and lane `j`. -/
theorem out5_apply (x0 : FVec Ideal S2000x128 .f32) (x1 x2 : FVec Ideal S2000x32 .f32) (x3 : FVec Ideal S163x128 .f32)
    (r : Fin 2000) (j : Fin 32) :
    out0_5 (F := Ideal) x0 x1 x2 x3 (ix2 r j)
      = (params x3 j).newC (fun k => x0 (ix2 r k)) (fun k => x1 (ix2 r k)) (x2 (ix2 r j)) := by
  unfold out0_5
  rw [View.canon_unit_zero zero_off]
  exact cell_apply x0 x1 x2 x3 r j

/-- The block of the first output, the new hidden state, at row `r` and lane `j`. -/
theorem out4_apply (x0 : FVec Ideal S2000x128 .f32) (x1 x2 : FVec Ideal S2000x32 .f32) (x3 : FVec Ideal S163x128 .f32)
    (r : Fin 2000) (j : Fin 32) :
    out0_4 (F := Ideal) x0 x1 x2 x3 (ix2 r j)
      = (params x3 j).newH (fun k => x0 (ix2 r k)) (fun k => x1 (ix2 r k)) (x2 (ix2 r j)) := by
  unfold out0_4
  rw [View.canon_unit_zero zero_off]
  pointwise [k0_pay1, k0_pay6]
  simp only [cell_apply]
  simp only [Params.newH, Gate.pre, params, gate, peephole, Nat.zero_add]

end Cert.KernelIdeal.Block

end
-- ==== Proof.Pack.lean ====
/-
  The packed weight array that the kernel's host code builds, read where each gate keeps its parameters: the columns of the
  separate weight matrices, bias vectors and peephole rows.
-/
module

public import proofs.«01_k».proof.Proof.Block

@[expose] public section

noncomputable section

namespace Cert.KernelIdeal.Pack

open Cert.KernelIdeal Cert.KernelIdeal.Gen Idealize.ShloMosaic Idealize.ShloMosaic.TcCoe Idealize.SL.Sem Cert.Cell

variable (m : (ℓ : Loc nD τ sig) → Buf (Elt Ideal) ℓ) (c : Dev nD)

/-- The cell's parameters at output lane `j`, from the arguments. -/
def paramsOf (j : Fin 32) : Params where
  i := gateOf (m ((c : Thread nD τ).loc main_arg5)) (m ((c : Thread nD τ).loc main_arg9)) (m ((c : Thread nD τ).loc main_arg13)) (m ((c : Thread nD τ).loc main_arg20)) j
  f := gateOf (m ((c : Thread nD τ).loc main_arg6)) (m ((c : Thread nD τ).loc main_arg10)) (m ((c : Thread nD τ).loc main_arg14)) (m ((c : Thread nD τ).loc main_arg21)) j
  t := gateOf (m ((c : Thread nD τ).loc main_arg7)) (m ((c : Thread nD τ).loc main_arg11)) (m ((c : Thread nD τ).loc main_arg15)) (m ((c : Thread nD τ).loc main_arg22)) j
  o := gateOf (m ((c : Thread nD τ).loc main_arg8)) (m ((c : Thread nD τ).loc main_arg12)) (m ((c : Thread nD τ).loc main_arg16)) (m ((c : Thread nD τ).loc main_arg23)) j
  pi := (m ((c : Thread nD τ).loc main_arg17) : FVec Ideal S1x32 .f32) (ix2 0 j)
  pf := (m ((c : Thread nD τ).loc main_arg18) : FVec Ideal S1x32 .f32) (ix2 0 j)
  po := (m ((c : Thread nD τ).loc main_arg19) : FVec Ideal S1x32 .f32) (ix2 0 j)

/-- The packed array as the host code builds it. -/
def wall : FVec Ideal S163x128 .f32 :=
  concatenate S163x128 0
    [⟨S128x128, concatenate S128x128 1 [⟨S128x32, m ((c : Thread nD τ).loc main_arg5)⟩, ⟨S128x32, m ((c : Thread nD τ).loc main_arg6)⟩, ⟨S128x32, m ((c : Thread nD τ).loc main_arg7)⟩, ⟨S128x32, m ((c : Thread nD τ).loc main_arg8)⟩] concatenates_S128x32_S128x32_S128x32_S128x32_S128x128_d1⟩,
     ⟨S32x128, concatenate S32x128 1 [⟨S32x32, m ((c : Thread nD τ).loc main_arg9)⟩, ⟨S32x32, m ((c : Thread nD τ).loc main_arg10)⟩, ⟨S32x32, m ((c : Thread nD τ).loc main_arg11)⟩, ⟨S32x32, m ((c : Thread nD τ).loc main_arg12)⟩] concatenates_S32x32_S32x32_S32x32_S32x32_S32x128_d1⟩,
     ⟨S1x128, broadcastInDim S1x128 ![1] bcast_S128_S1x128_1 (concatenate S128 0 [⟨S32, m ((c : Thread nD τ).loc main_arg13)⟩, ⟨S32, m ((c : Thread nD τ).loc main_arg14)⟩, ⟨S32, m ((c : Thread nD τ).loc main_arg15)⟩, ⟨S32, m ((c : Thread nD τ).loc main_arg16)⟩] concatenates_S32_S32_S32_S32_S128_d0)⟩,
     ⟨S1x128, concatenate S1x128 1 [⟨S1x32, m ((c : Thread nD τ).loc main_arg20)⟩, ⟨S1x32, m ((c : Thread nD τ).loc main_arg21)⟩, ⟨S1x32, m ((c : Thread nD τ).loc main_arg22)⟩, ⟨S1x32, m ((c : Thread nD τ).loc main_arg23)⟩] concatenates_S1x32_S1x32_S1x32_S1x32_S1x128_d1⟩,
     ⟨S1x128, concatenate S1x128 1 [⟨S1x32, m ((c : Thread nD τ).loc main_arg17)⟩, ⟨S1x32, m ((c : Thread nD τ).loc main_arg18)⟩, ⟨S1x32, m ((c : Thread nD τ).loc main_arg19)⟩, ⟨S1x32, m ((c : Thread nD τ).loc main_arg19)⟩] concatenates_S1x32_S1x32_S1x32_S1x32_S1x128_d1⟩]
    concatenates_S128x128_S32x128_S1x128_S1x128_S1x128_S163x128_d0

/-- At the launch, the fourth operand holds the packed array. -/
theorem packed : V m c main_v6 = wall m c := by
  simp only [V]
  after_results_simp
  rfl

open Block in
/-- Read at the gates' lanes, the packed array gives the arguments. -/
theorem params_wall (j : Fin 32) : params (wall m c) j = paramsOf m c j := by
  ext
  all_goals simp only [params, gate, peephole, paramsOf, gateOf]
  all_goals pointwise [wall]
  all_goals
    have t (h) : (⟨64 + j.val - 32 - 32, h⟩ : Fin 32) = j := Fin.ext (by dsimp only; omega)
    have o (h) : (⟨96 + j.val - 32 - 32 - 32, h⟩ : Fin 32) = j := Fin.ext (by dsimp only; omega)
    split_ifs <;> first
      | omega
      | rw [t]
      | rw [o]

end Cert.KernelIdeal.Pack

end
-- ==== Proof.Final.lean ====
/-
  The kernel's two output arrays after the run: each grid point reads its own 2000 rows of the state arrays and the whole
  packed array, and writes its own 2000 rows; the five points together cover all 10000 rows.
-/
module

public import proofs.«01_k».proof.Proof.Pack
public import proofs.«01_k».proof.Proof.Gen.KernelIdeal.Value
public import Idealize.ShloMosaic.Lib.Pipeline.ValueKit

@[expose] public section

noncomputable section

namespace Cert.KernelIdeal.Final

open Cert.KernelIdeal Cert.KernelIdeal.Gen Idealize.ShloMosaic Idealize.ShloMosaic.TcCoe Idealize.SL.Sem Cert.Cell

variable (m : (ℓ : Loc nD τ sig) → Buf (Elt Ideal) ℓ) (c : Dev nD)

/-- Grid point `t` takes block `t` of the input rows. -/
theorem index0 : ∀ t : Fin cfg0.N, win0_0.index t = ![t.val, 0] :=
  (by decide +kernel : ∀ t : Fin grid0.N, win0_0.index t = ![t.val, 0])

/-- … of the hidden state's rows. -/
theorem index1 : ∀ t : Fin cfg0.N, win0_1.index t = ![t.val, 0] :=
  (by decide +kernel : ∀ t : Fin grid0.N, win0_1.index t = ![t.val, 0])

/-- … of the cell state's rows. -/
theorem index2 : ∀ t : Fin cfg0.N, win0_2.index t = ![t.val, 0] :=
  (by decide +kernel : ∀ t : Fin grid0.N, win0_2.index t = ![t.val, 0])

/-- Every grid point takes the packed array whole. -/
theorem index3 : ∀ t : Fin cfg0.N, win0_3.index t = ![0, 0] :=
  (by decide +kernel : ∀ t : Fin grid0.N, win0_3.index t = ![0, 0])

/-- Grid point `t` writes block `t` of the new hidden state's rows. -/
theorem index4 : ∀ t : Fin cfg0.N, win0_4.index t = ![t.val, 0] :=
  (by decide +kernel : ∀ t : Fin grid0.N, win0_4.index t = ![t.val, 0])

/-- … and of the new cell state's rows. -/
theorem index5 : ∀ t : Fin cfg0.N, win0_5.index t = ![t.val, 0] :=
  (by decide +kernel : ∀ t : Fin grid0.N, win0_5.index t = ![t.val, 0])

/-- The row of the whole array that row `r` of block `t` is. -/
def row (t : Fin cfg0.N) (r : Fin 2000) : Fin 10000 := ⟨t.val * 2000 + r.val, by have : t.val < 5 := t.isLt; omega⟩

/-- The input's block at a point. -/
theorem block0 (t : Fin cfg0.N) (r : Fin 2000) (k : Fin 128) :
    iblk m c 0 t (ix2 r k) = (m ((c : Thread nD τ).loc main_arg0) : FVec Ideal S10000x128 .f32) (ix2 (row t r) k) := by
  blk_ext! [iblk, V_main_arg0, index0 t, row]

/-- The hidden state's block at a point. -/
theorem block1 (t : Fin cfg0.N) (r : Fin 2000) (k : Fin 32) :
    iblk m c 1 t (ix2 r k) = (m ((c : Thread nD τ).loc main_arg3) : FVec Ideal S10000x32 .f32) (ix2 (row t r) k) := by
  blk_ext! [iblk, V_main_arg3, index1 t, row]

/-- The cell state's block at a point. -/
theorem block2 (t : Fin cfg0.N) (r : Fin 2000) (k : Fin 32) :
    iblk m c 2 t (ix2 r k) = (m ((c : Thread nD τ).loc main_arg4) : FVec Ideal S10000x32 .f32) (ix2 (row t r) k) := by
  blk_ext! [iblk, V_main_arg4, index2 t, row]

/-- The packed array's block is the packed array. -/
theorem block3 (t : Fin cfg0.N) : iblk m c 3 t = Pack.wall m c := by
  rw [← Pack.packed]
  funext i
  blk_ext! [iblk, index3 t]

/-- Where row `r` and lane `j` of block `t` lie in the first output array. -/
theorem place4 (t : Fin cfg0.N) (r : Fin 2000) (j : Fin 32) :
    (win0_4.blk t).view.emb (ix2 r j) = (ix2 (row t r) j : S10000x32.Idx) := by
  blk_ext [index4 t, row]

/-- Where row `r` and lane `j` of block `t` lie in the second output array. -/
theorem place5 (t : Fin cfg0.N) (r : Fin 2000) (j : Fin 32) :
    (win0_5.blk t).view.emb (ix2 r j) = (ix2 (row t r) j : S10000x32.Idx) := by
  blk_ext [index5 t, row]

/-- The first output array after the run is the new hidden state. -/
theorem final4 : (dats m 0 c).arrAt 4 cfg0.N
    = arrayH (Pack.paramsOf m c) (m ((c : Thread nD τ).loc main_arg0)) (m ((c : Thread nD τ).loc main_arg3)) (m ((c : Thread nD τ).loc main_arg4)) := by
  refine (dats m 0 c).arrAt_eq_of_covers 4 _ (by decide +kernel) fun t hf y => ?_
  blk_simp
  rw [after0_4]
  obtain ⟨r, j, rfl⟩ : ∃ (r : Fin 2000) (j : Fin 32), y = ix2 r j := ⟨y 0, y 1, eq_ix2 y⟩
  rw [place4]
  refine (Block.out4_apply _ _ _ _ r j).trans ?_
  simp only [block0, block1, block2, block3, Pack.params_wall]
  rfl

/-- The second output array after the run is the new cell state. -/
theorem final5 : (dats m 0 c).arrAt 5 cfg0.N
    = arrayC (Pack.paramsOf m c) (m ((c : Thread nD τ).loc main_arg0)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, j, rfl⟩ : ∃ (r : Fin 2000) (j : Fin 32), y = ix2 r j := ⟨y 0, y 1, eq_ix2 y⟩
  rw [place5]
  refine (Block.out5_apply _ _ _ _ r j).trans ?_
  simp only [block0, block1, block2, block3, Pack.params_wall]
  rfl

end Cert.KernelIdeal.Final

end
-- ==== Proof.Reference.lean ====
/-
  What the reference computes: its operations, gate by gate, read at a row and a lane, are the GCLSTM cell's formulas
  (`Cell`) on the argument arrays.
-/
module

public import proofs.«01_k».proof.Proof.Cell
public import proofs.«01_k».proof.Proof.Gen.ReferenceIdeal.Run
public import Idealize.ShloMosaic.Lib.Pipeline.Value
public import Idealize.ShloMosaic.Lib.Pointwise

@[expose] public section

noncomputable section

namespace Cert.ReferenceIdeal.Read

open Cert.ReferenceIdeal Cert.ReferenceIdeal.Gen Idealize.ShloMosaic Idealize.ShloMosaic.TcCoe Idealize.SL.Sem Cert.Cell

/-- `x @ W + (h @ Th + bconv)`, whole arrays. -/
def conv (x : FVec Ideal S10000x128 .f32) (h : FVec Ideal S10000x32 .f32) (w : FVec Ideal S128x32 .f32)
    (th : FVec Ideal S32x32 .f32) (bconv : FVec Ideal S32 .f32) : FVec Ideal S10000x32 .f32 :=
  addf (Host.dotGeneral dot_S10000x128_S128x32_S10000x32_1_0_0_1_n_n none x w)
    (addf (Host.dotGeneral dot_S10000x32_S32x32_S10000x32_1_0_0_1_n_n none h th)
      (broadcastInDim S10000x32 ![0, 1] bcast_S1x32_S10000x32_0_1 (broadcastInDim S1x32 ![1] bcast_S32_S1x32_1 bconv)))

/-- One number for each lane, repeated over the rows. -/
def rows (b : FVec Ideal S1x32 .f32) : FVec Ideal S10000x32 .f32 :=
  broadcastInDim S10000x32 ![0, 1] bcast_S1x32_S10000x32_0_1 b

/-- The array of ones. -/
def ones : FVec Ideal S10000x32 .f32 := broadcastInDim S10000x32 ![] bcast_S_S10000x32 (constant S_ .f32 0x3F800000#32)

/-- A sigmoid gate with a peephole: `1 / (1 + exp (-(z + p * c + b)))`. -/
def sigmoidGate (z : FVec Ideal S10000x32 .f32) (p : FVec Ideal S1x32 .f32) (c : FVec Ideal S10000x32 .f32)
    (b : FVec Ideal S1x32 .f32) : FVec Ideal S10000x32 .f32 :=
  Host.divf ones (addf ones (Host.exp (Host.negf (addf (addf z (mulf (rows p) c)) (rows b)))))

variable (x : FVec Ideal S10000x128 .f32) (h c : FVec Ideal S10000x32 .f32) (w : FVec Ideal S128x32 .f32)
  (th : FVec Ideal S32x32 .f32) (bconv : FVec Ideal S32 .f32) (p b : FVec Ideal S1x32 .f32) (r : Fin 10000) (j : Fin 32)

/-- The sigmoid gate of a convolution, at a row and a lane. -/
theorem sigmoidGate_apply : sigmoidGate (conv x h w th bconv) p c b (ix2 r j)
    = Ideal.logistic ((gateOf w th bconv b j).pre (fun k => x (ix2 r k)) (fun k => h (ix2 r k)) + p (ix2 0 j) * c (ix2 r j)) := by
  pointwise [sigmoidGate, conv, rows, ones]
  simp only [Gate.pre, gateOf]
  simp only [Ideal.logistic, add_assoc, add_comm (b (ix2 0 j))]

/-- The candidate, at a row and a lane. -/
theorem candidate_apply : Host.tanh (F := Ideal) (addf (conv x h w th bconv) (rows b)) (ix2 r j)
    = Ideal.tanh ((gateOf w th bconv b j).pre (fun k => x (ix2 r k)) (fun k => h (ix2 r k))) := by
  pointwise [conv, rows]
  simp only [Gate.pre, gateOf, add_assoc]

section Program

variable (m : (ℓ : Loc nD τ sig) → Buf (Elt Ideal) ℓ) (c : Dev nD)

/-- The cell's parameters at output lane `j`, from the arguments. -/
def paramsOf (j : Fin 32) : Params where
  i := gateOf (m ((c : Thread nD τ).loc main_arg5)) (m ((c : Thread nD τ).loc main_arg9)) (m ((c : Thread nD τ).loc main_arg13)) (m ((c : Thread nD τ).loc main_arg20)) j
  f := gateOf (m ((c : Thread nD τ).loc main_arg6)) (m ((c : Thread nD τ).loc main_arg10)) (m ((c : Thread nD τ).loc main_arg14)) (m ((c : Thread nD τ).loc main_arg21)) j
  t := gateOf (m ((c : Thread nD τ).loc main_arg7)) (m ((c : Thread nD τ).loc main_arg11)) (m ((c : Thread nD τ).loc main_arg15)) (m ((c : Thread nD τ).loc main_arg22)) j
  o := gateOf (m ((c : Thread nD τ).loc main_arg8)) (m ((c : Thread nD τ).loc main_arg12)) (m ((c : Thread nD τ).loc main_arg16)) (m ((c : Thread nD τ).loc main_arg23)) j
  pi := (m ((c : Thread nD τ).loc main_arg17) : FVec Ideal S1x32 .f32) (ix2 0 j)
  pf := (m ((c : Thread nD τ).loc main_arg18) : FVec Ideal S1x32 .f32) (ix2 0 j)
  po := (m ((c : Thread nD τ).loc main_arg19) : FVec Ideal S1x32 .f32) (ix2 0 j)

/-- The reference's new cell state: `F * c + I * T`. -/
def refC : FVec Ideal S10000x32 .f32 :=
  addf
    (mulf (sigmoidGate (conv (m ((c : Thread nD τ).loc main_arg0)) (m ((c : Thread nD τ).loc main_arg3)) (m ((c : Thread nD τ).loc main_arg6)) (m ((c : Thread nD τ).loc main_arg10)) (m ((c : Thread nD τ).loc main_arg14)))
      (m ((c : Thread nD τ).loc main_arg18)) (m ((c : Thread nD τ).loc main_arg4)) (m ((c : Thread nD τ).loc main_arg21))) (m ((c : Thread nD τ).loc main_arg4)))
    (mulf (sigmoidGate (conv (m ((c : Thread nD τ).loc main_arg0)) (m ((c : Thread nD τ).loc main_arg3)) (m ((c : Thread nD τ).loc main_arg5)) (m ((c : Thread nD τ).loc main_arg9)) (m ((c : Thread nD τ).loc main_arg13)))
        (m ((c : Thread nD τ).loc main_arg17)) (m ((c : Thread nD τ).loc main_arg4)) (m ((c : Thread nD τ).loc main_arg20)))
      (Host.tanh (addf (conv (m ((c : Thread nD τ).loc main_arg0)) (m ((c : Thread nD τ).loc main_arg3)) (m ((c : Thread nD τ).loc main_arg7)) (m ((c : Thread nD τ).loc main_arg11)) (m ((c : Thread nD τ).loc main_arg15))) (rows (m ((c : Thread nD τ).loc main_arg22))))))

/-- The reference's new hidden state: `O * tanh C`. -/
def refH : FVec Ideal S10000x32 .f32 :=
  mulf
    (sigmoidGate (conv (m ((c : Thread nD τ).loc main_arg0)) (m ((c : Thread nD τ).loc main_arg3)) (m ((c : Thread nD τ).loc main_arg8)) (m ((c : Thread nD τ).loc main_arg12)) (m ((c : Thread nD τ).loc main_arg16)))
      (m ((c : Thread nD τ).loc main_arg19)) (refC m c) (m ((c : Thread nD τ).loc main_arg23)))
    (Host.tanh (refC m c))

/-- The reference's new cell state is the cell's, row by row and lane by lane. -/
theorem refC_eq : refC m c = arrayC (paramsOf m c) (m ((c : Thread nD τ).loc main_arg0)) (m ((c : Thread nD τ).loc main_arg3)) (m ((c : Thread nD τ).loc main_arg4)) := by
  funext i
  obtain ⟨r, j, rfl⟩ : ∃ (r : Fin 10000) (j : Fin 32), i = ix2 r j := ⟨i 0, i 1, eq_ix2 i⟩
  unfold refC
  rw [addf_apply, mulf_apply, mulf_apply, sigmoidGate_apply, sigmoidGate_apply, candidate_apply]
  rfl

/-- The reference's new hidden state is the cell's, row by row and lane by lane. -/
theorem refH_eq : refH m c = arrayH (paramsOf m c) (m ((c : Thread nD τ).loc main_arg0)) (m ((c : Thread nD τ).loc main_arg3)) (m ((c : Thread nD τ).loc main_arg4)) := by
  funext i
  obtain ⟨r, j, rfl⟩ : ∃ (r : Fin 10000) (j : Fin 32), i = ix2 r j := ⟨i 0, i 1, eq_ix2 i⟩
  unfold refH
  rw [mulf_apply, sigmoidGate_apply, refC_eq]
  rfl

/-- The term that the run leaves as the first result is `refH`. -/
theorem out0_eq : Value.res_out0 (F := Ideal) m c = arrayH (paramsOf m c) (m ((c : Thread nD τ).loc main_arg0)) (m ((c : Thread nD τ).loc main_arg3)) (m ((c : Thread nD τ).loc main_arg4)) :=
  (show Value.res_out0 (F := Ideal) m c = refH m c from rfl).trans (refH_eq m c)

end Program

end Cert.ReferenceIdeal.Read

end
-- ==== Proof.lean ====
/-
  The certificate: the kernel as written and its idealization run to completion from every launch, keep their arguments and
  leave every semaphore counter at zero, as does the reference; the idealization preserves the kernel; and from equal
  arguments the idealized kernel and the reference return equal arrays, the new hidden state and the new cell state, both
  being the GCLSTM cell's formulas (`Cell`) of the arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Final
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- Every run of the kernel as written ends, its arguments kept and every counter zero. -/
theorem frame_kernel : Cert.quiescent_Kernel := fun m ρ _ => Cert.Kernel.Gen.frame m ρ

/-- Every run of the idealized kernel ends, its arguments kept and every counter zero. -/
theorem frame_ideal : Cert.quiescent_KernelIdeal := fun m ρ _ => Cert.KernelIdeal.Gen.frame m ρ

/-- Every run of the reference ends, its arguments kept and every counter zero. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- From equal arguments the idealized kernel and the reference return equal arrays. -/
theorem equal_results : Cert.algebraic_KernelIdeal_ReferenceIdeal := by
  intro m ρ m' ρ' _ hagree
  have hparams (c) : Cert.ReferenceIdeal.Read.paramsOf m' c = Cert.KernelIdeal.Pack.paramsOf m c := by
    obtain ⟨_, _, _, _, _, a5, a6, a7, a8, a9, a10, a11, a12, a13, a14, a15, a16, a17, a18, a19, a20, a21, a22, a23⟩ := hagree c
    funext j
    simp only [Cert.ReferenceIdeal.Read.paramsOf, Cert.KernelIdeal.Pack.paramsOf, a5, a6, a7, a8, a9, a10, a11, a12, a13, a14, a15, a16, a17, a18, a19, a20, a21, a22, a23]
  refine ⟨fun c => (Cert.KernelIdeal.Gen.dats m 0 c).arrAt 4 Cert.KernelIdeal.cfg0.N,
    fun c => (Cert.KernelIdeal.Gen.dats m 0 c).arrAt 5 Cert.KernelIdeal.cfg0.N,
    Cert.KernelIdeal.Value.run_blocks (F := Ideal) m ρ, ?_⟩
  refine (θ_run Cert.ReferenceIdeal.defs _ _).mono (fun r h c => ⟨?_, ?_, (h c).2.2⟩)
    (Cert.ReferenceIdeal.Value.run (F := Ideal) m' ρ')
  · refine (h c).1.trans ((Cert.ReferenceIdeal.Read.out0_eq m' c).trans (Eq.trans ?_ (Cert.KernelIdeal.Final.final4 m c).symm))
    rw [hparams, (hagree c).1, (hagree c).2.2.2.1, (hagree c).2.2.2.2.1]
  · refine (h c).2.1.trans ((Cert.ReferenceIdeal.Read.refC_eq m' c).trans (Eq.trans ?_ (Cert.KernelIdeal.Final.final5 m c).symm))
    rw [hparams, (hagree c).1, (hagree c).2.2.2.1, (hagree c).2.2.2.2.1]

/-- All five claims. -/
theorem claim : Cert.Claim := ⟨Cert.Kernel.Gen.facts, Cert.KernelIdeal.Gen.facts, Cert.ReferenceIdeal.Gen.facts,
  frame_kernel, frame_ideal, frame_reference, trivial, equal_results⟩

end Cert.Proof

end
